-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_enough_scores [hPre_enough_scores : Cert.Pre_enough_scores.Facts] (m : (ℓ : Loc Cert.KernelIdeal.nD Cert.KernelIdeal.τ Cert.KernelIdeal.sig) → Buf (Elt Ideal) ℓ) : Prop :=
  ∀ c : Dev Cert.KernelIdeal.nD,
    (Cert.Pre_enough_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough_scores [hPre_enough_scores : Cert.Pre_enough_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_enough_scores [hKernelIdeal : Cert.KernelIdeal.Facts] [hPre_enough_scores : Cert.Pre_enough_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_enough_scores [hReferenceIdeal : Cert.ReferenceIdeal.Facts] [hPre_enough_scores : Cert.Pre_enough_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_enough_scores [hKernelIdeal : Cert.KernelIdeal.Facts] [hReferenceIdeal : Cert.ReferenceIdeal.Facts] [hPre_enough_scores : Cert.Pre_enough_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_values) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_enough_scores : Cert.Pre_enough_scores.Facts),
    quiescent_Kernel (hKernel := hKernel)
    ∧ quiescent_KernelIdeal (hKernelIdeal := hKernelIdeal)
    ∧ quiescent_KernelIdeal_pre_enough_scores (hKernelIdeal := hKernelIdeal) (hPre_enough_scores := hPre_enough_scores)
    ∧ quiescent_ReferenceIdeal (hReferenceIdeal := hReferenceIdeal)
    ∧ quiescent_ReferenceIdeal_pre_enough_scores (hReferenceIdeal := hReferenceIdeal) (hPre_enough_scores := hPre_enough_scores)
    ∧ preserves_Kernel_KernelIdeal
    ∧ algebraic_KernelIdeal_ReferenceIdeal_pre_enough_scores (hKernelIdeal := hKernelIdeal) (hReferenceIdeal := hReferenceIdeal) (hPre_enough_scores := hPre_enough_scores)
-- ==== Pre_enough_scores.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768 : Shape := ⟨1, ![32768]⟩

class Facts : Prop where
  transposes_S64x4096_S4096x64_1_0 : S64x4096.Transposes [1, 0] S4096x64
  bcast_S_S32768x64 : S_.BroadcastsInDim S32768x64 (![] : Fin 0 → Fin S32768x64.rank)
  natLt_1_32 : 1 < 32
  reducesTo_S32768x64_S32768_d1 : S32768x64.ReducesTo [1] S32768
  h_S_ : 0 < S_.numel
  bcast_S_S32768 : S_.BroadcastsInDim S32768 (![] : Fin 0 → Fin S32768.rank)
  dot_S32768x4096_S4096x64_S32768x64_1_0_0_1_n_n_wf : DotDims.WF S32768x4096 S4096x64 S32768x64 [1] [0] [0] [1] [] []

variable [Facts]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf
def fn {F : FTy → Type} [FloatOps F] (main_arg0 : FVec F S32768x4096 .f32) (main_arg1 : FVec F S64x4096 .f32) (main_arg2 : FVec F S64x4096 .f32) : IVec S32768 1 :=
  let main_v0 : FVec F S4096x64 .f32 := (transpose S4096x64 [1, 0] · transposes_S64x4096_S4096x64_1_0) main_arg1
  let main_v1 : FVec F S32768x64 .f32 := (fun l r => Host.dotGeneral dot_S32768x4096_S4096x64_S32768x64_1_0_0_1_n_n none l r) main_arg0 main_v0
  let main_cst : FVec F S_ .f32 := constant S_ .f32 0xFF800000#32
  let main_v2 : FVec F S32768x64 .f32 := broadcastInDim S32768x64 ![] bcast_S_S32768x64 main_cst
  let main_v3 : IVec S32768x64 1 := cmpf .ogt main_v1 main_v2
  let main_v4 : IVec S32768x64 32 := (extui 32 · natLt_1_32) main_v3
  let main_c : IVec S_ 32 := constantI S_ 32 0#32
  let main_v5 : IVec S32768 32 := (fun x v => Host.reduce IntOp.addi x v reducesTo_S32768x64_S32768_d1 h_S_) main_v4 main_c
  let main_c_0 : IVec S_ 32 := constantI S_ 32 8#32
  let main_v6 : IVec S32768 32 := broadcastInDim S32768 ![] bcast_S_S32768 main_c_0
  let main_v7 : IVec S32768 1 := cmpi .sge main_v5 main_v6
  main_v7
-- ==== Kernel.lean ====
abbrev S32768x4096 : Shape := ⟨2, ![32768, 4096]⟩
abbrev S64x4096 : Shape := ⟨2, ![64, 4096]⟩
abbrev S128x4096 : Shape := ⟨2, ![128, 4096]⟩
abbrev S32768x64 : Shape := ⟨2, ![32768, 64]⟩
abbrev S8x32768 : Shape := ⟨2, ![8, 32768]⟩
abbrev S32768x8 : Shape := ⟨2, ![32768, 8]⟩
abbrev S1024x4096 : Shape := ⟨2, ![1024, 4096]⟩
abbrev S1024x64 : Shape := ⟨2, ![1024, 64]⟩
abbrev S8x1024 : Shape := ⟨2, ![8, 1024]⟩
abbrev S1024x128 : Shape := ⟨2, ![1024, 128]⟩
abbrev S64x1024 : Shape := ⟨2, ![64, 1024]⟩
abbrev S1024 : Shape := ⟨1, ![1024]⟩
abbrev S1x1024 : Shape := ⟨2, ![1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64x4096, .f32⟩
  | .hbm, ⟨3, _⟩ => ⟨S128x4096, .f32⟩
  | .hbm, ⟨4, _⟩ => ⟨S32768x64, .f32⟩
  | .hbm, ⟨5, _⟩ => ⟨S32768x64, .f32⟩
  | .hbm, ⟨6, _⟩ => ⟨S8x32768, .i32⟩
  | .hbm, ⟨7, _⟩ => ⟨S8x32768, .f32⟩
  | .hbm, ⟨8, _⟩ => ⟨S32768x8, .i32⟩
  | .hbm, ⟨9, _⟩ => ⟨S32768x8, .f32⟩
  | .local _ .vmem, ⟨0, _⟩ => ⟨S1024x4096, .f32⟩
  | .local _ .vmem, ⟨1, _⟩ => ⟨S1024x4096, .f32⟩
  | .local _ .vmem, ⟨2, _⟩ => ⟨S128x4096, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S8x1024, .i32⟩
  | .local _ .vmem, ⟨8, _⟩ => ⟨S8x1024, .i32⟩
  | .local _ .vmem, ⟨9, _⟩ => ⟨S8x1024, .f32⟩
  | .local _ .vmem, ⟨10, _⟩ => ⟨S8x1024, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_v0_1 : Ref sig .tc := ⟨.hbm, 5, rfl⟩
abbrev main_call0_v1_2 : Ref sig .tc := ⟨.hbm, 6, rfl⟩
abbrev main_call0_v1_3 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S32768x8 : Shape := ⟨2, ![32768, 8]⟩

abbrev nBuf : Space → Nat
  | .hbm => 9
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64x4096, .f32⟩
  | .hbm, ⟨3, _⟩ => ⟨S4096x64, .f32⟩
  | .hbm, ⟨4, _⟩ => ⟨S32768x64, .f32⟩
  | .hbm, ⟨5, _⟩ => ⟨S4096x64, .f32⟩
  | .hbm, ⟨6, _⟩ => ⟨S32768x64, .f32⟩
  | .hbm, ⟨7, _⟩ => ⟨S32768x8, .f32⟩
  | .hbm, ⟨8, _⟩ => ⟨S32768x8, .i32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩

abbrev nD : Nat := 1
abbrev τ : Topo := Topo.v7x

variable {F : FTy → Type} [FloatOps F]
-- ==== Proof.Picks.lean ====
/- Repeated selection of a greatest entry. `pick f` is the first position at which `f` is greatest, `strike f` writes −∞
   over it, and `rounds f r` is `f` after `r` such steps. If at least `K` entries of `f` are above −∞, the first `K`
   positions picked are the first `K` positions of the stable descending sort of `f`, and the greatest entry of each round
   is the entry of `f` there. -/
module

public import Idealize.ShloMosaic.Lib.SortPrefix
public import Idealize.ShloMosaic.PureOps.Ideal.Laws

@[expose] public section

noncomputable section

namespace Cert.Proof

open Idealize.ShloMosaic

section Picks

variable {n : ℕ} [NeZero n]

/-- The greatest entry. -/
def peak (f : Fin n → EReal) : EReal := Finset.univ.sup f

theorem le_peak (f : Fin n → EReal) (k : Fin n) : f k ≤ peak f := Finset.le_sup (f := f) (Finset.mem_univ k)

theorem exists_eq_peak (f : Fin n → EReal) : ∃ k, f k = peak f := by
  obtain ⟨k, -, hk⟩ := Finset.exists_mem_eq_sup Finset.univ ⟨(0 : Fin n), Finset.mem_univ _⟩ f
  exact ⟨k, hk.symm⟩

/-- The positions at which the greatest entry stands. -/
def peaks (f : Fin n → EReal) : Finset (Fin n) := Finset.univ.filter fun k => f k = peak f

theorem peaks_nonempty (f : Fin n → EReal) : (peaks f).Nonempty := by
  obtain ⟨k, hk⟩ := exists_eq_peak f
  exact ⟨k, Finset.mem_filter.mpr ⟨Finset.mem_univ _, hk⟩⟩

/-- The first position at which the greatest entry stands. -/
def pick (f : Fin n → EReal) : Fin n := (peaks f).min' (peaks_nonempty f)

theorem apply_pick (f : Fin n → EReal) : f (pick f) = peak f :=
  (Finset.mem_filter.mp ((peaks f).min'_mem (peaks_nonempty f))).2

theorem pick_le (f : Fin n → EReal) (k : Fin n) (h : f k = peak f) : pick f ≤ k :=
  (peaks f).min'_le k (Finset.mem_filter.mpr ⟨Finset.mem_univ _, h⟩)

/-- The entries with −∞ written over the picked one. -/
def strike (f : Fin n → EReal) : Fin n → EReal := fun k => if k = pick f then ⊥ else f k

/-- The entries after `r` picks. -/
def rounds (f : Fin n → EReal) : ℕ → Fin n → EReal
  | 0 => f
  | r + 1 => strike (rounds f r)

/-- The position picked in round `r`. -/
def pickAt (f : Fin n → EReal) (r : ℕ) : Fin n := pick (rounds f r)

/-- A position not picked yet still holds its entry. -/
theorem rounds_of_unpicked (f : Fin n → EReal) (r : ℕ) (k : Fin n) (h : ∀ s < r, pickAt f s ≠ k) :
    rounds f r k = f k := by
  induction r with
  | zero => rfl
  | succ r ih =>
    show (if k = pick (rounds f r) then ⊥ else rounds f r k) = f k
    rw [if_neg fun e => h r (Nat.lt_succ_self r) e.symm, ih fun s hs => h s (Nat.lt_succ_of_lt hs)]

/-- A position picked already holds −∞. -/
theorem rounds_of_picked (f : Fin n → EReal) (r s : ℕ) (hs : s < r) : rounds f r (pickAt f s) = ⊥ := by
  induction r with
  | zero => omega
  | succ r ih =>
    show (if pickAt f s = pick (rounds f r) then ⊥ else rounds f r (pickAt f s)) = ⊥
    split
    · rfl
    · rename_i hne
      refine ih ?_
      rcases Nat.lt_succ_iff_lt_or_eq.mp hs with h | h
      · exact h
      · subst h; exact absurd rfl hne

variable (f : Fin n → EReal) (K : ℕ) (hK : K ≤ (Finset.univ.filter fun k => ⊥ < f k).card)
include hK

/-- While fewer than `K` positions have been picked, the greatest entry left is above −∞. -/
theorem peak_rounds_pos (r : ℕ) (hr : r < K) : ⊥ < peak (rounds f r) := by
  classical
  have hcard : ((Finset.range r).image (pickAt f)).card < (Finset.univ.filter fun k => ⊥ < f k).card :=
    lt_of_le_of_lt (Finset.card_image_le.trans (Finset.card_range r).le) (lt_of_lt_of_le hr hK)
  obtain ⟨k, hk, hk'⟩ := Finset.exists_mem_notMem_of_card_lt_card hcard
  have hne : ∀ s < r, pickAt f s ≠ k := fun s hs e =>
    hk' (Finset.mem_image.mpr ⟨s, Finset.mem_range.mpr hs, e⟩)
  have := (Finset.mem_filter.mp hk).2
  rw [← rounds_of_unpicked f r k hne] at this
  exact lt_of_lt_of_le this (le_peak _ k)

/-- The first `K` picks are different. -/
theorem pickAt_ne (r s : ℕ) (hr : r < K) (hs : s < r) : pickAt f s ≠ pickAt f r := by
  intro e
  have h := peak_rounds_pos f K hK r hr
  rw [← apply_pick] at h
  change ⊥ < rounds f r (pickAt f r) at h
  rw [← e, rounds_of_picked f r s hs] at h
  exact lt_irrefl _ h

/-- The greatest entry of round `r` is the entry of `f` at the position picked. -/
theorem apply_pickAt (r : ℕ) (hr : r < K) : f (pickAt f r) = peak (rounds f r) := by
  rw [← rounds_of_unpicked f r (pickAt f r) fun s hs => pickAt_ne f K hK r s hr hs]
  exact apply_pick _

/-- "`k` before `k'`" in the descending order, equal entries in order of position. -/
def precedes (f : Fin n → EReal) (k k' : Fin n) : Bool :=
  decide (f k' < f k) || (decide (f k = f k') && decide (k < k'))

omit [NeZero n] hK in
theorem precedes_total : StrictTotalBefore (precedes f) :=
  StrictTotalBefore.of_key_then_position (fun a b : EReal => decide (b < a)) f (fun a => by simp)
    (fun a b c hab hbc => by
      simp only [decide_eq_true_eq] at hab hbc ⊢; exact lt_trans hbc hab)
    (fun a b => by
      simp only [decide_eq_true_eq]
      rcases lt_trichotomy b a with h | h | h
      · exact Or.inl h
      · exact Or.inr (Or.inl h.symm)
      · exact Or.inr (Or.inr h))

/-- No position left at round `r` is before the position picked there. -/
theorem not_precedes_pickAt (r : ℕ) (hr : r < K) (k : Fin n) (h : ∀ s < r, pickAt f s ≠ k) :
    precedes f k (pickAt f r) = false := by
  have hle : f k ≤ f (pickAt f r) := by
    rw [apply_pickAt f K hK r hr, ← rounds_of_unpicked f r k h]; exact le_peak _ k
  unfold precedes
  rw [Bool.or_eq_false_iff, Bool.and_eq_false_iff]
  refine ⟨decide_eq_false (not_lt.mpr hle), ?_⟩
  by_cases he : f k = f (pickAt f r)
  · refine Or.inr (decide_eq_false (not_lt.mpr ?_))
    refine pick_le _ k ?_
    rw [rounds_of_unpicked f r k h, he, apply_pickAt f K hK r hr]
  · exact Or.inl (decide_eq_false he)

omit [NeZero n] hK in
/-- Inserting entries from the last to the first, a comparison by entry alone sorts as the one that breaks ties by
    position: every entry already inserted stands later. -/
theorem stableSort_eq (l : List (Fin n)) (hl : l.Pairwise (· < ·)) :
    stableSort (fun k k' => decide (f k' < f k)) l = stableSort (precedes f) l := by
  induction l with
  | nil => rfl
  | cons a l ih =>
    rw [List.pairwise_cons] at hl
    show insertBefore _ a (stableSort _ l) = insertBefore _ a (stableSort _ l)
    rw [ih hl.2]
    refine insertBefore_congr _ _ _ _ fun b hb => ?_
    have hlt : a < b := hl.1 b ((perm_stableSort _ l).mem_iff.mp hb)
    unfold precedes
    rw [decide_eq_false (not_lt.mpr hlt.le), Bool.and_false, Bool.or_false]

/-- The stable descending sort's position `i < K` is the position picked in round `i`. -/
theorem sortedFrom_eq_pickAt (hKn : K ≤ n) (i : Fin K) :
    sortedFrom (fun k k' => decide (f k' < f k)) (i.castLE hKn) = pickAt f i.val := by
  have hs : sortedFrom (fun k k' => decide (f k' < f k)) = sortedFrom (precedes f) := by
    have e : sortPositions n (fun k k' => decide (f k' < f k)) = sortPositions n (precedes f) :=
      stableSort_eq f _ (List.pairwise_lt_finRange n)
    funext k
    unfold sortedFrom
    simp only [List.get_eq_getElem, Fin.val_cast, e]
  rw [hs]
  refine (precedes_total f).sortedFrom_eq_of_prefix hKn (fun i : Fin K => pickAt f i.val) ?_ ?_ ?_ i
  · intro a b e
    by_contra hne
    rcases lt_or_gt_of_ne hne with h | h
    · exact pickAt_ne f K hK b a b.isLt h e
    · exact pickAt_ne f K hK a b a.isLt h e.symm
  · intro a b hab
    exact not_precedes_pickAt f K hK a a.isLt _ fun s hs =>
      pickAt_ne f K hK b s b.isLt (lt_trans hs hab)
  · intro a p hp
    exact not_precedes_pickAt f K hK a a.isLt p fun s hs => hp ⟨s, lt_trans hs a.isLt⟩

end Picks

end Cert.Proof

end
-- ==== Proof.Round.lean ====
/- One round of the kernel's selection, read in a column of the transposed scores: the greatest entry, the first row at
   which it stands, and the scores with −∞ written over it. -/
module

public import proofs.«01_k».proof.Proof.Picks
public import proofs.«01_k».proof.Proof.Gen.KernelIdeal.Skeleton
public import Idealize.ShloMosaic.Lib.ValueIdx
public import Idealize.ShloMosaic.Lib.ValueLayout
public import Idealize.ShloMosaic.Lib.Pipeline.Value
public import Idealize.ShloMosaic.Lib.WordCmp

@[expose] public section

set_option maxRecDepth 16384

noncomputable section

namespace Cert.Proof

open Idealize.ShloMosaic Idealize.ShloMosaic.ValueIdx Cert.KernelIdeal Cert.KernelIdeal.Gen

/-- Column `c` of the transposed scores: the scores of one row of the batch. -/
def column (w : FVec Ideal S64x1024 .f32) (c : Fin 1024) : Fin 64 → EReal := fun k => w (ix2 k c)

theorem bits_negInf : (Scalar.ofBits .f32 0xFF800000#32 : Ideal .f32) = (⊥ : EReal) := by
  show Ideal.ofBits .f32 0xFF800000#32 = ⊥
  simp [Ideal.ofBits, Ideal.ieee]

theorem bits_posInf : (Scalar.ofBits .f32 0x7F800000#32 : Ideal .f32) = (⊤ : EReal) := by
  show Ideal.ofBits .f32 0x7F800000#32 = ⊤
  simp [Ideal.ofBits, Ideal.ieee]

theorem bits_sixtyFour : (Scalar.ofBits .f32 0x42800000#32 : Ideal .f32) = ((64 : ℕ) : EReal) := by
  show Ideal.ofBits .f32 0x42800000#32 = ((64 : ℕ) : EReal)
  simp only [Ideal.ofBits, Ideal.ieee]
  simp
  rw [← EReal.coe_mul, show (64 : EReal) = ((64 : ℝ) : EReal) from rfl]
  norm_num

theorem foldl_max_le_iff {α : Type} (g : α → EReal) (l : List α) (a b : EReal) :
    l.foldl (fun acc k => max acc (g k)) a ≤ b ↔ a ≤ b ∧ ∀ k ∈ l, g k ≤ b := by
  induction l generalizing a with
  | nil => simp
  | cons c l ih => simp only [List.foldl_cons, ih, max_le_iff, List.forall_mem_cons, and_assoc]

theorem le_foldl_min_iff {α : Type} (g : α → EReal) (l : List α) (a b : EReal) :
    b ≤ l.foldl (fun acc k => min acc (g k)) a ↔ b ≤ a ∧ ∀ k ∈ l, b ≤ g k := by
  induction l generalizing a with
  | nil => simp
  | cons c l ih => simp only [List.foldl_cons, ih, le_min_iff, List.forall_mem_cons, and_assoc]

/-- A column's maximum, folded from −∞ down the rows. -/
theorem colMax_apply (w : FVec Ideal S64x1024 .f32) (c : Fin 1024) :
    multiReduction .maximumf [0] S1024 w 0xFF800000#32 reduces_S64x1024_S1024 (.inl rfl) rfl (ix1 c)
      = (List.finRange 64).foldl (fun acc k => max acc (w (ix2 k c))) (⊥ : EReal) := by
  refine (reduceFold_rows reduces_S64x1024_S1024 FloatOps.maximumf _ w (ix1 c)).trans ?_
  rw [show (FloatOps.ofBits .f32 0xFF800000#32 : Ideal .f32) = (⊥ : EReal) from bits_negInf]
  refine List.foldl_ext _ _ _ fun acc k _ => ?_
  exact congrArg (fun i => max acc (w i)) (funext fun a => by match a with | ⟨0, _⟩ => rfl | ⟨1, _⟩ => rfl)

/-- A column's minimum, folded from +∞ down the rows. -/
theorem colMin_apply (w : FVec Ideal S64x1024 .f32) (c : Fin 1024) :
    multiReduction .minimumf [0] S1024 w 0x7F800000#32 reduces_S64x1024_S1024 (.inl rfl) rfl (ix1 c)
      = (List.finRange 64).foldl (fun acc k => min acc (w (ix2 k c))) (⊤ : EReal) := by
  refine (reduceFold_rows reduces_S64x1024_S1024 FloatOps.minimumf _ w (ix1 c)).trans ?_
  rw [show (FloatOps.ofBits .f32 0x7F800000#32 : Ideal .f32) = (⊤ : EReal) from bits_posInf]
  refine List.foldl_ext _ _ _ fun acc k _ => ?_
  exact congrArg (fun i => min acc (w i)) (funext fun a => by match a with | ⟨0, _⟩ => rfl | ⟨1, _⟩ => rfl)

/-- The maximum of a column is its greatest entry. -/
theorem k0_pay1_apply (w : FVec Ideal S64x1024 .f32) (u : Fin 1) (c : Fin 1024) :
    k0_pay1 w (ix2 u c) = peak (column w c) := by
  refine (shapeCast_a_1a_apply (multiReduction .maximumf [0] S1024 w 0xFF800000#32 reduces_S64x1024_S1024 (.inl rfl) rfl)
    shapeCasts_S1024_S1x1024 u c).trans ?_
  rw [colMax_apply]
  refine le_antisymm ?_ ?_
  · exact (foldl_max_le_iff _ _ _ _).mpr ⟨bot_le, fun k _ => le_peak (column w c) k⟩
  · exact Finset.sup_le fun k _ => ((foldl_max_le_iff (fun k => w (ix2 k c)) (List.finRange 64) ⊥ _).mp le_rfl).2 k (List.mem_finRange k)

/-- The row numbers, as floats. -/
theorem k0_pay11_apply (k : Fin 64) (c : Fin 1024) :
    (k0_pay11 (F := Ideal)) (ix2 k c) = ((k.val : ℕ) : EReal) := by
  have hv : (BitVec.ofNat 32 k.val).toInt = (k.val : ℤ) := by
    have := k.isLt
    rw [BitVec.toInt_eq_toNat_cond, BitVec.toNat_ofNat, Nat.mod_eq_of_lt (by omega), if_pos (by omega)]
  show FloatOps.sitofp .f32 (iota .tc S64x1024 32 [0] iota_S64x1024_d0_w32 (ix2 k c)) = _
  rw [iota_single_apply]
  show (((BitVec.ofNat 32 k.val).toInt : ℝ) : EReal) = _
  rw [hv]
  norm_cast

/-- The row found in a column is the first at which the greatest entry stands. -/
theorem k0_pay2_apply (w : FVec Ideal S64x1024 .f32) (u : Fin 1) (c : Fin 1024) :
    k0_pay2 k0_pay11 w (ix2 u c) = (((pick (column w c)).val : ℕ) : EReal) := by
  let cand : FVec Ideal S64x1024 .f32 := select (cmpf .oeq w (broadcastTo S64x1024 (k0_pay1 w) broadcasts_S1x1024_S64x1024))
    (k0_pay11 (F := Ideal)) (broadcast S64x1024 (Scalar.ofBits .f32 0x42800000#32 : Ideal .f32))
  refine (shapeCast_a_1a_apply (multiReduction .minimumf [0] S1024 cand 0x7F800000#32 reduces_S64x1024_S1024 (.inl rfl) rfl)
    shapeCasts_S1024_S1x1024 u c).trans ?_
  rw [colMin_apply]
  have hread : ∀ k : Fin 64, cand (ix2 k c)
        = if column w c k = peak (column w c) then ((k.val : ℕ) : EReal) else ((64 : ℕ) : EReal) := by
    intro k
    show Scalar.select (FloatOps.cmpf .oeq (w (ix2 k c))
      (broadcastTo S64x1024 (k0_pay1 w) broadcasts_S1x1024_S64x1024 (ix2 k c))) (k0_pay11 (F := Ideal) (ix2 k c))
        (Scalar.ofBits .f32 0x42800000#32 : Ideal .f32) = _
    rw [broadcastTo_1b_ab_apply, k0_pay1_apply, k0_pay11_apply, bits_sixtyFour, Ideal.cmpf_def]
    by_cases h : column w c k = peak (column w c)
    · rw [if_pos h]
      have h' : w (ix2 k c) = peak (column w c) := h
      simp [Ideal.cmp, h', Scalar.select]
    · rw [if_neg h]
      have h' : ¬ w (ix2 k c) = peak (column w c) := h
      simp [Ideal.cmp, h', Scalar.select]
  refine le_antisymm ?_ ?_
  · refine (((le_foldl_min_iff (fun k => cand (ix2 k c)) (List.finRange 64) ⊤ _).mp le_rfl).2 (pick (column w c)) (List.mem_finRange _)).trans ?_
    rw [hread, if_pos (apply_pick _)]
  · refine (le_foldl_min_iff _ _ _ _).mpr ⟨le_top, fun k _ => ?_⟩
    rw [hread]
    split
    · rename_i h
      exact_mod_cast (pick_le (column w c) k h : (pick (column w c)).val ≤ k.val)
    · exact_mod_cast (pick (column w c)).isLt.le

/-- The scores after the round. -/
theorem k0_pay3_apply (w : FVec Ideal S64x1024 .f32) (k : Fin 64) (c : Fin 1024) :
    k0_pay3 k0_pay11 w (ix2 k c) = strike (column w c) k := by
  show Scalar.select (FloatOps.cmpf .oeq (k0_pay11 (F := Ideal) (ix2 k c))
    (broadcastTo S64x1024 (k0_pay2 k0_pay11 w) broadcasts_S1x1024_S64x1024 (ix2 k c)))
      (Scalar.ofBits .f32 0xFF800000#32 : Ideal .f32) (w (ix2 k c)) = _
  rw [broadcastTo_1b_ab_apply, k0_pay2_apply, k0_pay11_apply, bits_negInf, Ideal.cmpf_def]
  have e : (((k.val : ℕ) : EReal) = ((pick (column w c)).val : ℕ)) ↔ k = pick (column w c) := by
    rw [Fin.ext_iff]; exact_mod_cast Iff.rfl
  unfold strike
  by_cases h : k = pick (column w c)
  · rw [if_pos h]; simp [Ideal.cmp, e.mpr h, Scalar.select]
  · rw [if_neg h]
    simp only [Ideal.cmp, Scalar.select, decide_eq_false fun x => h (e.mp x)]
    rfl

/-- The column of the scores after the round. -/
theorem column_k0_pay3 (w : FVec Ideal S64x1024 .f32) (c : Fin 1024) :
    column (k0_pay3 k0_pay11 w) c = strike (column w c) := by
  funext k
  rw [column, k0_pay3_apply]

/-- A small natural number, as a float, is converted to its word. -/
theorem fptosi_natCast (n : ℕ) (h : n < 64) : Ideal.fptosi 32 ((n : ℕ) : EReal) = BitVec.ofNat 32 n := by
  have e : ((n : ℕ) : EReal) = ((n : ℝ) : EReal) := by norm_cast
  rw [e, Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    rw [min_eq_right (by norm_num; omega), max_eq_right (by norm_num)]
  rw [this]
  exact BitVec.ofInt_natCast 32 n

end Cert.Proof

end
-- ==== Proof.Block.lean ====
/- What one grid point leaves in its four output blocks, read at an index: the two products, and for each row of the batch
   the position and the entry that each round picks. -/
module

public import proofs.«01_k».proof.Proof.Round
public import proofs.«01_k».proof.Proof.Gen.KernelIdeal.Frame
public import Idealize.ShloMosaic.Lib.Pipeline.ValueKit
public import Idealize.ShloMosaic.Lib.MatmulPlain

@[expose] public section

set_option maxRecDepth 16384

noncomputable section

namespace Cert.Proof

open Idealize.ShloMosaic hiding ix1 ix2
open Idealize.ShloMosaic.ValueIdx Cert.KernelIdeal Cert.KernelIdeal.Gen

/-- The transposed scores after `r` rounds. -/
def work (x0 : Vec Ideal S1024x4096 .f32) (x1 : Vec Ideal S128x4096 .f32) : ℕ → FVec Ideal S64x1024 .f32
  | 0 => k0_pay10 x0 x1
  | r + 1 => k0_pay3 k0_pay11 (work x0 x1 r)

theorem column_work (x0 : Vec Ideal S1024x4096 .f32) (x1 : Vec Ideal S128x4096 .f32) (c : Fin 1024) (r : ℕ) :
    column (work x0 x1 r) c = rounds (column (k0_pay10 x0 x1) c) r := by
  induction r with
  | zero => rfl
  | succ r ih => rw [work, column_k0_pay3, ih, rounds]

/-- Eight rows, one under another, read at an index. -/
theorem stack_apply (f : ℕ → FVec Ideal S1x1024 .f32) (h) (r : Fin 8) (c : Fin 1024) :
    concatenate S8x1024 0 [⟨S1x1024, f 0⟩, ⟨S1x1024, f 1⟩, ⟨S1x1024, f 2⟩, ⟨S1x1024, f 3⟩, ⟨S1x1024, f 4⟩, ⟨S1x1024, f 5⟩,
      ⟨S1x1024, f 6⟩, ⟨S1x1024, f 7⟩] h (ix2 r c) = f r.val (ix2 0 c) := by
  refine concatenate_unit_eq 0 _ h (ix2 r c) _ rfl ?_
  have key : ∀ k, PieceAt (t := S8x1024) 0 (ix2 r c) (f r.val (ix2 0 c)) S1x1024 (f k) k := by
    intro k hk hr i hi0 hi
    have hk' : r.val = k := hk
    subst hk'
    refine congrArg (f r.val) (funext fun a => Fin.ext ?_)
    match a with
    | ⟨0, _⟩ => exact hi0
    | ⟨1, _⟩ => exact hi 1 (by decide)
  exact ⟨key 0, key 1, key 2, key 3, key 4, key 5, key 6, key 7, trivial⟩

/-- The values' block. -/
theorem out0_5_apply (x0 : Vec Ideal S1024x4096 .f32) (x1 : Vec Ideal S128x4096 .f32) (r : Fin 8) (c : Fin 1024) :
    out0_5 x0 x1 (ix2 r c) = peak (rounds (column (k0_pay10 x0 x1) c) r.val) := by
  unfold_out out0_5
  rw [View.canon_cons_unit_lit _ _ _ (by decide), View.ld_unit_lit _ _ (by decide), View.ld_unit_lit _ _ (by decide)]
  rw [← column_work, ← k0_pay1_apply _ 0 c]
  exact stack_apply (fun r => k0_pay1 (work x0 x1 r)) concatenates_S1x1024_S1x1024_S1x1024_S1x1024_S1x1024_S1x1024_S1x1024_S1x1024_S8x1024_d0 r c

/-- The positions' block. -/
theorem out0_4_apply (x0 : Vec Ideal S1024x4096 .f32) (x1 : Vec Ideal S128x4096 .f32) (r : Fin 8) (c : Fin 1024) :
    out0_4 x0 x1 (ix2 r c) = BitVec.ofNat 32 (pickAt (column (k0_pay10 x0 x1) c) r.val).val := by
  unfold_out out0_4
  rw [View.canon_cons_unit_lit _ _ _ (by decide), View.ld_unit_lit _ _ (by decide), View.ld_unit_lit _ _ (by decide)]
  rw [pickAt, ← column_work, ← fptosi_natCast _ (Fin.isLt _), ← k0_pay2_apply _ 0 c]
  exact congrArg (Ideal.fptosi 32) (stack_apply (fun r => k0_pay2 k0_pay11 (work x0 x1 r)) concatenates_S1x1024_S1x1024_S1x1024_S1x1024_S1x1024_S1x1024_S1x1024_S1x1024_S8x1024_d0 r c)

/-- The block of products: row `r` of the batch's block against row `e` of the stacked weights. -/
theorem k0_pay7_apply (x0 : Vec Ideal S1024x4096 .f32) (x1 : Vec Ideal S128x4096 .f32) (r : Fin 1024) (e : Fin 128) :
    k0_pay7 x0 x1 (ix2 r e) = ∑ k : Fin 4096, x0 (ix2 r k) * x1 (ix2 e k) := by
  have hd : dot_S1024x4096_S128x4096_S1024x128_1_1_0_0_n_n = DotDims.transposedRhs 1024 4096 128 := rfl
  unfold k0_pay7
  simp only [matmul]
  rw [hd, Ideal.matmul_transposedRhs_apply, shapeCast_self]
  show (Ideal.ofBits .f32 0x00000000#32 : EReal) + _ = _
  rw [Ideal.ofBits_zero_f32, zero_add]

/-- The first 64 columns of the products. -/
theorem k0_pay8_apply (x0 : Vec Ideal S1024x4096 .f32) (x1 : Vec Ideal S128x4096 .f32) (r : Fin 1024) (e : Fin 64) :
    k0_pay8 x0 x1 (ix2 r e) = ∑ k : Fin 4096, x0 (ix2 r k) * x1 (ix2 (⟨e.val, by omega⟩ : Fin 128) k) := by
  rw [← k0_pay7_apply]
  unfold k0_pay8
  refine extractStridedSlice_apply _ _ _ _ _ fun a => ?_
  match a with
  | ⟨0, _⟩ => exact (Nat.zero_add _).symm
  | ⟨1, _⟩ => exact (Nat.zero_add _).symm

/-- The last 64 columns of the products. -/
theorem k0_pay9_apply (x0 : Vec Ideal S1024x4096 .f32) (x1 : Vec Ideal S128x4096 .f32) (r : Fin 1024) (e : Fin 64) :
    k0_pay9 x0 x1 (ix2 r e) = ∑ k : Fin 4096, x0 (ix2 r k) * x1 (ix2 (⟨64 + e.val, by omega⟩ : Fin 128) k) := by
  rw [← k0_pay7_apply]
  unfold k0_pay9
  refine extractStridedSlice_apply _ _ _ _ _ fun a => ?_
  match a with
  | ⟨0, _⟩ => exact (Nat.zero_add _).symm
  | ⟨1, _⟩ => rfl

/-- Column `c` of the transposed scores is row `c` of the scores. -/
theorem column_k0_pay10 (x0 : Vec Ideal S1024x4096 .f32) (x1 : Vec Ideal S128x4096 .f32) (c : Fin 1024) :
    column (k0_pay10 x0 x1) c = fun e => k0_pay8 x0 x1 (ix2 c e) := by
  funext e
  unfold column k0_pay10
  exact transpose_ix2_apply _ _ _ _

theorem out0_2_eq (x0 : Vec Ideal S1024x4096 .f32) (x1 : Vec Ideal S128x4096 .f32) : out0_2 x0 x1 = k0_pay8 x0 x1 := by
  unfold_out out0_2
  rw [View.canon_cons_unit_lit _ _ _ (by decide), View.ld_unit_lit _ _ (by decide), View.ld_unit_lit _ _ (by decide)]

theorem out0_3_eq (x0 : Vec Ideal S1024x4096 .f32) (x1 : Vec Ideal S128x4096 .f32) : out0_3 x0 x1 = k0_pay9 x0 x1 := by
  unfold_out out0_3
  rw [View.canon_cons_unit_lit _ _ _ (by decide), View.ld_unit_lit _ _ (by decide), View.ld_unit_lit _ _ (by decide)]

end Cert.Proof

end
-- ==== Proof.Arrays.lean ====
/- The four arrays that the pipeline leaves, read at an index over the arguments: the two products, and for every row of
   the batch the positions and the entries that the eight rounds pick from its row of the first product. -/
module

public import proofs.«01_k».proof.Proof.Block
public import Idealize.ShloMosaic.Lib.Claim

@[expose] public section

set_option maxRecDepth 16384

noncomputable section

namespace Cert.Proof

open Idealize.ShloMosaic hiding ix1 ix2
open Idealize.ShloMosaic.TcCoe Idealize.ShloMosaic.ValueIdx Cert.KernelIdeal Cert.KernelIdeal.Gen

variable (m : (ℓ : Loc nD τ sig) → Buf (Elt Ideal) ℓ)

/-- Row `b` of `x` against every row of `w`: row `b` of `x · wᵀ`. -/
def scores (x : FVec Ideal S32768x4096 .f32) (w : FVec Ideal S64x4096 .f32) (b : Fin 32768) : Fin 64 → EReal :=
  fun e => ∑ k : Fin 4096, x (ix2 b k) * w (ix2 e k)

/-- Every window's block index at grid point `t`. -/
theorem blockIdx : ∀ t : Fin cfg0.N, win0_0.index t = ![t.val, 0] ∧ win0_1.index t = ![0, 0] ∧ win0_2.index t = ![t.val, 0]
    ∧ win0_3.index t = ![t.val, 0] ∧ win0_4.index t = ![0, t.val] ∧ win0_5.index t = ![0, t.val] :=
  (by decide +kernel : ∀ t : Fin grid0.N, _)

/-- Row `r` of grid point `t`'s block, among the batch's rows. -/
def batchRow (t : Fin cfg0.N) (r : Fin 1024) : Fin 32768 := ⟨t.val * 1024 + r.val, by
  have h : t.val < 32 := t.isLt
  omega⟩

theorem iblk0_apply (c : Dev nD) (t : Fin cfg0.N) (r : Fin 1024) (k : Fin 4096) :
    iblk m c 0 t (ix2 r k) = m ((c : Thread nD τ).loc main_arg0) (ix2 (batchRow t r) k) := by
  blk_ext! [iblk, V, (blockIdx t).1]
  rfl

/-- The stacked weights, as the host leaves them for the pipeline. -/
theorem stacked_eq (c : Dev nD) : V m c main_call0_v0 = concatenate S128x4096 0
    [⟨S64x4096, m ((c : Thread nD τ).loc main_arg1)⟩, ⟨S64x4096, m ((c : Thread nD τ).loc main_arg2)⟩]
      concatenates_S64x4096_S64x4096_S128x4096_d0 := by
  entry_read
  rfl

theorem iblk1_apply (c : Dev nD) (t : Fin cfg0.N) (e : Fin 128) (k : Fin 4096) :
    iblk m c 1 t (ix2 e k) = V m c main_call0_v0 (ix2 e k) := by
  blk_ext! [iblk, (blockIdx t).2.1]

/-- A row of the stacked weights below 64 is that row of the first weights. -/
theorem stacked_left (c : Dev nD) (e : Fin 64) (k : Fin 4096) :
    V m c main_call0_v0 (ix2 (⟨e.val, by omega⟩ : Fin 128) k) = m ((c : Thread nD τ).loc main_arg1) (ix2 e k) := by
  rw [stacked_eq]
  exact concatenate_pair_apply_left (t := S128x4096) (s₁ := S64x4096) (s₂ := S64x4096) 0 _ _ _ _ rfl (ix2 e k) fun b => match b with | ⟨0, _⟩ => rfl | ⟨1, _⟩ => rfl

/-- A row of the stacked weights from 64 on is that row, less 64, of the second weights. -/
theorem stacked_right (c : Dev nD) (e : Fin 64) (k : Fin 4096) :
    V m c main_call0_v0 (ix2 (⟨64 + e.val, by omega⟩ : Fin 128) k) = m ((c : Thread nD τ).loc main_arg2) (ix2 e k) := by
  rw [stacked_eq]
  exact concatenate_pair_apply_right (t := S128x4096) (s₁ := S64x4096) (s₂ := S64x4096) 0 _ _ _ _ rfl rfl (ix2 e k)
    (fun b hb => match b, hb with | ⟨0, _⟩, hb => absurd rfl hb | ⟨1, _⟩, _ => rfl) (Nat.add_comm _ _)

/-- The first block of products at point `t`. -/
theorem sel_point (c : Dev nD) (t : Fin cfg0.N) (r : Fin 1024) (e : Fin 64) :
    k0_pay8 (iblk m c 0 t) (iblk m c 1 t) (ix2 r e)
      = scores (m ((c : Thread nD τ).loc main_arg0)) (m ((c : Thread nD τ).loc main_arg1)) (batchRow t r) e := by
  refine (k0_pay8_apply _ _ r e).trans (Finset.sum_congr rfl fun k _ => ?_)
  exact congrArg₂ (· * ·) (iblk0_apply m c t r k) ((iblk1_apply m c t _ k).trans (stacked_left m c e k))

/-- The second block of products at point `t`. -/
theorem fus_point (c : Dev nD) (t : Fin cfg0.N) (r : Fin 1024) (e : Fin 64) :
    k0_pay9 (iblk m c 0 t) (iblk m c 1 t) (ix2 r e)
      = scores (m ((c : Thread nD τ).loc main_arg0)) (m ((c : Thread nD τ).loc main_arg2)) (batchRow t r) e := by
  refine (k0_pay9_apply _ _ r e).trans (Finset.sum_congr rfl fun k _ => ?_)
  exact congrArg₂ (· * ·) (iblk0_apply m c t r k) ((iblk1_apply m c t _ k).trans (stacked_right m c e k))

/-- The column of transposed scores at point `t`. -/
theorem column_point (c : Dev nD) (t : Fin cfg0.N) (r : Fin 1024) :
    column (k0_pay10 (iblk m c 0 t) (iblk m c 1 t)) r
      = scores (m ((c : Thread nD τ).loc main_arg0)) (m ((c : Thread nD τ).loc main_arg1)) (batchRow t r) := by
  rw [column_k0_pay10]
  funext e
  exact sel_point m c t r e

/-- Where the blocks of the four results stand in their arrays. -/
theorem emb2 (t : Fin cfg0.N) (y : S1024x64.Idx) :
    (win0_2.blk t).view.emb y 0 = batchRow t (y 0) ∧ (win0_2.blk t).view.emb y 1 = y 1 := by
  constructor <;> refine Fin.ext ?_ <;> blk_simp [(blockIdx t).2.2.1] <;> simp [batchRow]

theorem emb3 (t : Fin cfg0.N) (y : S1024x64.Idx) :
    (win0_3.blk t).view.emb y 0 = batchRow t (y 0) ∧ (win0_3.blk t).view.emb y 1 = y 1 := by
  constructor <;> refine Fin.ext ?_ <;> blk_simp [(blockIdx t).2.2.2.1] <;> simp [batchRow]

theorem emb4 (t : Fin cfg0.N) (y : S8x1024.Idx) :
    (win0_4.blk t).view.emb y 0 = y 0 ∧ (win0_4.blk t).view.emb y 1 = batchRow t (y 1) := by
  constructor <;> refine Fin.ext ?_ <;> blk_simp [(blockIdx t).2.2.2.2.1] <;> simp [batchRow]

theorem emb5 (t : Fin cfg0.N) (y : S8x1024.Idx) :
    (win0_5.blk t).view.emb y 0 = y 0 ∧ (win0_5.blk t).view.emb y 1 = batchRow t (y 1) := by
  constructor <;> refine Fin.ext ?_ <;> blk_simp [(blockIdx t).2.2.2.2.2] <;> simp [batchRow]

/-- The first result array. -/
theorem final2 (c : Dev nD) : (dats m 0 c).arrAt 2 cfg0.N = fun i : S32768x64.Idx =>
    scores (m ((c : Thread nD τ).loc main_arg0)) (m ((c : Thread nD τ).loc main_arg1)) (i 0) (i 1) := by
  refine (dats m 0 c).arrAt_eq_of_covers 2 _ (by decide +kernel) fun t hf y => ?_
  show (dats m 0 c).after 2 t y = scores _ _ ((win0_2.blk t).view.emb y 0) ((win0_2.blk t).view.emb y 1)
  rw [after0_2, out0_2_eq, (emb2 t y).1, (emb2 t y).2]
  exact (congrArg _ (eq_ix2 _)).trans (sel_point m c t (y 0) (y 1))

/-- The second result array. -/
theorem final3 (c : Dev nD) : (dats m 0 c).arrAt 3 cfg0.N = fun i : S32768x64.Idx =>
    scores (m ((c : Thread nD τ).loc main_arg0)) (m ((c : Thread nD τ).loc main_arg2)) (i 0) (i 1) := by
  refine (dats m 0 c).arrAt_eq_of_covers 3 _ (by decide +kernel) fun t hf y => ?_
  show (dats m 0 c).after 3 t y = scores _ _ ((win0_3.blk t).view.emb y 0) ((win0_3.blk t).view.emb y 1)
  rw [after0_3, out0_3_eq, (emb3 t y).1, (emb3 t y).2]
  exact (congrArg _ (eq_ix2 _)).trans (fus_point m c t (y 0) (y 1))

/-- The third result array, before the host transposes it. -/
theorem final4 (c : Dev nD) : (dats m 0 c).arrAt 4 cfg0.N = fun i : S8x32768.Idx =>
    BitVec.ofNat 32 (pickAt (scores (m ((c : Thread nD τ).loc main_arg0)) (m ((c : Thread nD τ).loc main_arg1)) (i 1))
      (i 0).val).val := by
  refine (dats m 0 c).arrAt_eq_of_covers 4 _ (by decide +kernel) fun t hf y => ?_
  show (dats m 0 c).after 4 t y = BitVec.ofNat 32 (pickAt (scores _ _ ((win0_4.blk t).view.emb y 1))
    ((win0_4.blk t).view.emb y 0).val).val
  rw [after0_4, (emb4 t y).1, (emb4 t y).2]
  refine ((congrArg _ (eq_ix2 _)).trans (out0_4_apply _ _ (y 0) (y 1))).trans ?_
  exact congrArg (fun f => BitVec.ofNat 32 (pickAt f (y 0).val).val) (column_point m c t (y 1))

/-- The fourth result array, before the host transposes it. -/
theorem final5 (c : Dev nD) : (dats m 0 c).arrAt 5 cfg0.N = fun i : S8x32768.Idx =>
    peak (rounds (scores (m ((c : Thread nD τ).loc main_arg0)) (m ((c : Thread nD τ).loc main_arg1)) (i 1)) (i 0).val) := by
  refine (dats m 0 c).arrAt_eq_of_covers 5 _ (by decide +kernel) fun t hf y => ?_
  show (dats m 0 c).after 5 t y = peak (rounds (scores _ _ ((win0_5.blk t).view.emb y 1)) ((win0_5.blk t).view.emb y 0).val)
  rw [after0_5, (emb5 t y).1, (emb5 t y).2]
  refine ((congrArg _ (eq_ix2 _)).trans (out0_5_apply _ _ (y 0) (y 1))).trans ?_
  exact congrArg (fun f => peak (rounds f (y 0).val)) (column_point m c t (y 1))

end Cert.Proof

end
-- ==== Proof.Expected.lean ====
/- What the reference computes, read at an index over the arguments: its products, its top-k as a stable sort's first eight
   positions, and what the precondition says of a row of the first product. -/
module

public import proofs.«01_k».proof.Proof.Arrays
public import proofs.«01_k».proof.Proof.Gen.ReferenceIdeal
public import proofs.«01_k».proof.Proof.Gen.Pre_enough_scores
public import Idealize.ShloMosaic.Lib.StackMember
public import Idealize.ShloMosaic.Lib.ValueLayout
public import Idealize.ShloMosaic.Lib.Routing.Ops

@[expose] public section

set_option maxRecDepth 16384

noncomputable section

namespace Cert.Proof

open Idealize.ShloMosaic hiding ix1 ix2 eq_ix2
open Idealize.ShloMosaic.ValueIdx Idealize.ShloMosaic.StableHlo.Predicate Idealize.ShloMosaic.Routing Cert.KernelIdeal

/-- The host's product with the transposed weights, at an index. -/
theorem product_apply (wf : DotDims.WF S32768x4096 ⟨2, ![4096, 64]⟩ S32768x64 [1] [0] [0] [1] [] [])
    (ht : S64x4096.Transposes [1, 0] ⟨2, ![4096, 64]⟩) (x : FVec Ideal S32768x4096 .f32) (w : FVec Ideal S64x4096 .f32)
    (b : Fin 32768) (e : Fin 64) :
    Host.dotGeneral (⟨[1], [0], [0], [1], [], [], wf⟩ : DotDims S32768x4096 ⟨2, ![4096, 64]⟩ S32768x64) none x
      (transpose ⟨2, ![4096, 64]⟩ [1, 0] w ht) (ix2 b e) = scores x w b e := by
  refine (StackMember.dotGeneral_plain_apply (m := 32768) (n := 64) (k := 4096) none x
    (transpose ⟨2, ![4096, 64]⟩ [1, 0] w ht) b e).trans ?_
  exact Finset.sum_congr rfl fun k _ => congrArg (x (ix2 b k) * ·) (transpose_ix2_apply w ht k e)

/-- The position within row `b` that a stable descending sort of the row puts at place `r`. -/
def sortedAt (x : FVec Ideal S32768x64 .f32) (b : Fin 32768) (r : Fin 8) : Fin 64 :=
  sortedFrom (fun k k' => decide (x (ix2 b k') < x (ix2 b k))) (r.castLE (by decide))

/-- It is the position the rounds pick. -/
theorem sortedAt_eq (x : FVec Ideal S32768x64 .f32) (b : Fin 32768) (r : Fin 8) (f : Fin 64 → EReal)
    (hx : ∀ e, x (ix2 b e) = f e) (hK : 8 ≤ (Finset.univ.filter fun e => ⊥ < f e).card) :
    sortedAt x b r = pickAt f r.val := by
  refine Eq.trans ?_ (sortedFrom_eq_pickAt f 8 hK (by decide) r)
  unfold sortedAt
  simp only [hx]

/-- Replacing the column of an index. -/
theorem along_ix2 (b : Fin 32768) (e k : Fin 64) : (ix2 b e : S32768x64.Idx).along 1 k = ix2 b k := by
  have h0 : (ix2 b e : S32768x64.Idx).along 1 k 0 = b := Function.update_of_ne (show (0 : Fin 2) ≠ 1 by decide) _ _
  have h1 : (ix2 b e : S32768x64.Idx).along 1 k 1 = k := Function.update_self _ _ _
  rw [eq_ix2 ((ix2 b e : S32768x64.Idx).along 1 k), h0, h1]
  rfl

/-- Whether one entry precedes another in the total order, as the sort asks it. -/
theorem cmpfTotal_beq (a b : EReal) :
    ((FloatOps.cmpfTotal (F := Ideal) (φ := .f32) .gt a b : BitVec 1) == 1#1) = decide (b < a) := by
  rw [Ideal.cmpfTotal_def]
  show (BitVec.ofBool (decide (b < a)) == 1#1) = _
  cases decide (b < a) <;> rfl

/-- The first `r` columns of a slice at offset zero. -/
theorem slice_ix2 {α : Type} (y : S32768x64.Idx → α) (h : S32768x64.Slices (fun _ => 0) S32768x8) (b : Fin 32768) (r : Fin 8) :
    extractStridedSlice S32768x8 (fun _ => 0) y h (ix2 b r) = y (ix2 b (r.castLE (by decide))) := by
  unfold extractStridedSlice
  refine congrArg y (funext fun a => Fin.ext ?_)
  match a with
  | ⟨0, _⟩ => exact Nat.zero_add _
  | ⟨1, _⟩ => exact Nat.zero_add _

theorem topK_values (x : FVec Ideal S32768x64 .f32) (h : S32768x64.Slices (fun _ => 0) S32768x8) (b : Fin 32768) (r : Fin 8) :
    (Host.topK S32768x8 1 (FloatOps.cmpfTotal (F := Ideal) (φ := .f32) .gt) x h).1 (ix2 b r)
      = x (ix2 b (sortedAt x b r)) := by
  unfold Host.topK Host.sort2
  dsimp only
  rw [slice_ix2, dif_pos (by decide)]
  refine (congrArg x (along_ix2 b _ _)).trans ?_
  refine congrArg (fun q => x (ix2 b q)) (congrArg (fun g => sortedFrom g _) (funext fun k => funext fun k' => ?_))
  refine (cmpfTotal_beq _ _).trans ?_
  exact congrArg₂ (fun i i' => decide (x i' < x i)) (along_ix2 b _ k) (along_ix2 b _ k')

theorem topK_positions (x : FVec Ideal S32768x64 .f32) (h : S32768x64.Slices (fun _ => 0) S32768x8) (b : Fin 32768) (r : Fin 8) :
    (Host.topK S32768x8 1 (FloatOps.cmpfTotal (F := Ideal) (φ := .f32) .gt) x h).2 (ix2 b r)
      = BitVec.ofNat 32 (sortedAt x b r).val := by
  unfold Host.topK Host.sort2
  dsimp only
  rw [slice_ix2, dif_pos (by decide)]
  refine (congrArg (fun i : S32768x64.Idx => BitVec.ofNat 32 (i 1).val) (along_ix2 b _ _)).trans ?_
  refine congrArg (fun q : Fin 64 => BitVec.ofNat 32 q.val)
    (congrArg (fun g => sortedFrom g _) (funext fun k => funext fun k' => ?_))
  refine (cmpfTotal_beq _ _).trans ?_
  exact congrArg₂ (fun i i' => decide (x i' < x i)) (along_ix2 b _ k) (along_ix2 b _ k')

/-- A bit of the comparison against minus infinity. -/
theorem above_iff (y : FVec Ideal S32768x64 .f32) (h : (⟨0, ![]⟩ : Shape).BroadcastsInDim S32768x64 ![]) (i : S32768x64.Idx) :
    cmpf .ogt y (broadcastInDim S32768x64 ![] h (constant ⟨0, ![]⟩ .f32 0xFF800000#32)) i = 1#1 ↔ ⊥ < y i := by
  have e : cmpf .ogt y (broadcastInDim S32768x64 ![] h (constant ⟨0, ![]⟩ .f32 0xFF800000#32)) i
      = Ideal.cmp .ogt (y i) (Scalar.ofBits .f32 0xFF800000#32 : Ideal .f32) := rfl
  rw [e, bits_negInf]
  show BitVec.ofBool (decide (⊥ < y i)) = 1#1 ↔ _
  by_cases hl : ⊥ < y i <;> simp [hl]

/-- What the precondition says: at least eight entries of every row of the first product are above the bottom. -/
theorem enough (x : FVec Ideal S32768x4096 .f32) (w₁ w₂ : FVec Ideal S64x4096 .f32)
    (hpre : @Cert.Pre_enough_scores.fn Cert.Pre_enough_scores.Gen.facts Ideal _ x w₁ w₂ = fun _ => 1#1) (b : Fin 32768) :
    8 ≤ (Finset.univ.filter fun e => ⊥ < scores x w₁ b e).card := by
  let F := Cert.Pre_enough_scores.Gen.facts
  have hcount := toNat_reduce_count_cols (n := 32768) (m := 64) (by decide)
    (cmpf (F := Ideal) (φ := .f32) .ogt
      (Host.dotGeneral (⟨[1], [0], [0], [1], [], [], F.dot_S32768x4096_S4096x64_S32768x64_1_0_0_1_n_n_wf⟩ :
          DotDims S32768x4096 ⟨2, ![4096, 64]⟩ S32768x64) none x
        (transpose ⟨2, ![4096, 64]⟩ [1, 0] w₁ F.transposes_S64x4096_S4096x64_1_0))
      (broadcastInDim S32768x64 ![] F.bcast_S_S32768x64 (constant Cert.Pre_enough_scores.S_ .f32 0xFF800000#32)))
    F.natLt_1_32 F.reducesTo_S32768x64_S32768_d1 F.h_S_ (ix1 b)
  have hle : ∀ p : Fin 64 → Prop, ∀ [DecidablePred p], (Finset.univ.filter p).card < 2 ^ 31 := fun p _ =>
    lt_of_le_of_lt (Finset.card_le_univ _) (by simp)
  have hfn := congrFun hpre (ix1 b)
  unfold Cert.Pre_enough_scores.fn at hfn
  dsimp only at hfn
  have h := (sge_iff_toNat (b := 8#32) (lt_of_eq_of_lt hcount (hle _)) (by decide)).1 hfn
  refine (h.trans_eq hcount).trans (Finset.card_le_card fun e he => ?_)
  rw [Finset.mem_filter] at he ⊢
  refine ⟨he.1, ?_⟩
  have hb := he.2
  rw [ij_eq_ix2] at hb
  have hlt := (above_iff _ _ _).1 hb
  rw [product_apply] at hlt
  exact hlt

end Cert.Proof

end
-- ==== Proof.Tail.lean ====
/- What the host's lines after the pipeline leave in the two results of the selection: the transposes of the pipeline's
   arrays. -/
module

public import proofs.«01_k».proof.Proof.Expected

@[expose] public section

set_option maxRecDepth 16384

noncomputable section

namespace Cert.Proof

open Idealize.ShloMosaic hiding ix1 ix2 eq_ix2
open Idealize.ShloMosaic.TcCoe Idealize.ShloMosaic.ValueIdx Cert.KernelIdeal Cert.KernelIdeal.Gen

variable (m : (ℓ : Loc nD τ sig) → Buf (Elt Ideal) ℓ)

/-- The third result, after the last host line. -/
theorem tail2 (c : Dev nD) : Pipeline.afterTail₀ cfgs (dats m) 0 (V0 m) [hostOps1] c main_v0_2
    = transpose S32768x8 [1, 0] ((dats m 0 c).arrAt 4 cfg0.N) transposes_S8x32768_S32768x8_1_0 := by
  refine Eq.trans ?_ (congrArg (fun y => transpose S32768x8 [1, 0] y transposes_S8x32768_S32768x8_1_0)
    (Pipeline.withArrays_arr spec0 (by decide) c (V0 m c) (fun w => (dats m 0 c).arrAt w (cfgs 0).N) 4))
  unfold Pipeline.afterTail₀
  generalize Pipeline.withArrays (cfgs 0).spec c (V0 m c) (fun w => (dats m 0 c).arrAt w (cfgs 0).N) = V
  simp only [hostOps1, List.flatten_cons, List.flatten_nil, List.append_nil]
  after_results
  rfl

/-- The fourth result, after the last host line. -/
theorem tail3 (c : Dev nD) : Pipeline.afterTail₀ cfgs (dats m) 0 (V0 m) [hostOps1] c main_v0_3
    = transpose S32768x8 [1, 0] ((dats m 0 c).arrAt 5 cfg0.N) transposes_S8x32768_S32768x8_1_0 := by
  refine Eq.trans ?_ (congrArg (fun y => transpose S32768x8 [1, 0] y transposes_S8x32768_S32768x8_1_0)
    (Pipeline.withArrays_arr spec0 (by decide) c (V0 m c) (fun w => (dats m 0 c).arrAt w (cfgs 0).N) 5))
  unfold Pipeline.afterTail₀
  generalize Pipeline.withArrays (cfgs 0).spec c (V0 m c) (fun w => (dats m 0 c).arrAt w (cfgs 0).N) = V
  simp only [hostOps1, List.flatten_cons, List.flatten_nil, List.append_nil]
  after_results
  rfl

/-- The reference's positions, of a product `X`, are the third result. -/
theorem third_eq (c : Dev nD) (X : FVec Ideal S32768x64 .f32) (h : S32768x64.Slices (fun _ => 0) S32768x8)
    (hX : ∀ b e, X (ix2 b e)
      = scores (m ((c : Thread nD τ).loc main_arg0)) (m ((c : Thread nD τ).loc main_arg1)) b e)
    (hK : ∀ b, 8 ≤ (Finset.univ.filter fun e =>
      ⊥ < scores (m ((c : Thread nD τ).loc main_arg0)) (m ((c : Thread nD τ).loc main_arg1)) b e).card) :
    (Host.topK S32768x8 1 (FloatOps.cmpfTotal (F := Ideal) (φ := .f32) .gt) X h).2
      = Pipeline.afterTail₀ cfgs (dats m) 0 (V0 m) [hostOps1] c main_v0_2 := by
  rw [tail2, final4]
  funext j
  rw [eq_ix2 j]
  refine (topK_positions X h (j 0) (j 1)).trans ?_
  refine Eq.trans ?_ (transpose_ix2_apply _ transposes_S8x32768_S32768x8_1_0 (j 0) (j 1)).symm
  exact congrArg (fun q : Fin 64 => BitVec.ofNat 32 q.val) (sortedAt_eq X (j 0) (j 1) _ (hX (j 0)) (hK (j 0)))

/-- The reference's values, of a product `X`, are the fourth result. -/
theorem fourth_eq (c : Dev nD) (X : FVec Ideal S32768x64 .f32) (h : S32768x64.Slices (fun _ => 0) S32768x8)
    (hX : ∀ b e, X (ix2 b e)
      = scores (m ((c : Thread nD τ).loc main_arg0)) (m ((c : Thread nD τ).loc main_arg1)) b e)
    (hK : ∀ b, 8 ≤ (Finset.univ.filter fun e =>
      ⊥ < scores (m ((c : Thread nD τ).loc main_arg0)) (m ((c : Thread nD τ).loc main_arg1)) b e).card) :
    (Host.topK S32768x8 1 (FloatOps.cmpfTotal (F := Ideal) (φ := .f32) .gt) X h).1
      = Pipeline.afterTail₀ cfgs (dats m) 0 (V0 m) [hostOps1] c main_v0_3 := by
  rw [tail3, final5]
  funext j
  rw [eq_ix2 j]
  refine (topK_values X h (j 0) (j 1)).trans ?_
  refine Eq.trans ?_ (transpose_ix2_apply _ transposes_S8x32768_S32768x8_1_0 (j 0) (j 1)).symm
  refine Eq.trans ?_ (apply_pickAt _ 8 (hK (j 0)) (j 1).val (j 1).isLt)
  exact (hX (j 0) _).trans (congrArg _ (sortedAt_eq X (j 0) (j 1) _ (hX (j 0)) (hK (j 0))))

end Cert.Proof

end
-- ==== Proof.lean ====
/- The certificate's claims: the three frames, that the ideal kernel is the kernel's own text, and that the ideal kernel and
   the ideal reference end with the same four results whenever every row has eight selection scores above minus infinity.
   The argument is in the modules `Picks` (repeated selection against a stable sort), `Round` and `Block` (the kernel's body),
   `Arrays` (the pipeline's arrays), `Expected` (the reference and the precondition) and `Tail` (the host's last lines). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_enough_scores
public import proofs.«01_k».proof.Proof.Tail
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_enough_scores.Gen.facts, by
  refine ⟨fun m ρ _ => Cert.Kernel.Gen.frame m ρ, fun m ρ _ => Cert.KernelIdeal.Gen.frame m ρ,
    fun m ρ _ => Cert.KernelIdeal.Gen.frame m ρ, fun m ρ _ => ?_, fun m ρ _ => ?_, trivial, ?_⟩
  · hlo_run
    · exact fun _ => ⟨trivial, trivial, trivial⟩
    · exact sem_eq_zero_of_no_sems rfl _
  · hlo_run
    · exact fun _ => ⟨trivial, trivial, trivial⟩
    · exact sem_eq_zero_of_no_sems rfl _
  · pair_intro
    · run_from Cert.KernelIdeal.Gen.run_main m g
      · exact Cert.KernelIdeal.Gen.W_main_arg1 m _ _
      · exact Cert.KernelIdeal.Gen.W_main_arg2 m _ _
    · hlo_run
      · rw [final2]
        funext i
        rw [ValueIdx.eq_ix2 i]
        exact product_apply _ _ _ _ _ _
      · rw [final3]
        funext i
        rw [ValueIdx.eq_ix2 i]
        exact product_apply _ _ _ _ _ _
      · exact third_eq m _ _ _ (fun b e => product_apply _ _ _ _ b e) (fun b => enough _ _ _ (hpre _) b)
      · exact fourth_eq m _ _ _ (fun b e => product_apply _ _ _ _ b e) (fun b => enough _ _ _ (hpre _) b)⟩

end Cert.Proof

end
